-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x4096 : Shape := ⟨3, ![192, 1, 4096]⟩
abbrev S14336x4096 : Shape := ⟨2, ![14336, 4096]⟩
abbrev S14336 : Shape := ⟨1, ![14336]⟩
abbrev S192x4096 : Shape := ⟨2, ![192, 4096]⟩
abbrev S1x14336 : Shape := ⟨2, ![1, 14336]⟩
abbrev S192x14336 : Shape := ⟨2, ![192, 14336]⟩
abbrev S1024x4096 : Shape := ⟨2, ![1024, 4096]⟩
abbrev S1x1024 : Shape := ⟨2, ![1, 1024]⟩
abbrev S192x1024 : Shape := ⟨2, ![192, 1024]⟩
abbrev S192x1x14336 : Shape := ⟨3, ![192, 1, 14336]⟩

abbrev nBuf : Space → Nat
  | .hbm => 9
  | .vmem => 9
  | .smem => 0
  | _ => 0

abbrev bufTy : (tb : Table) → Fin (tcTables nBuf tb) → BufTy
  | .hbm, ⟨0, _⟩ => ⟨S192x1x4096, .bf16⟩
  | .hbm, ⟨1, _⟩ => ⟨S14336x4096, .fp8e4m3⟩
  | .hbm, ⟨2, _⟩ => ⟨S14336, .f32⟩
  | .hbm, ⟨3, _⟩ => ⟨S14336, .f32⟩
  | .hbm, ⟨4, _⟩ => ⟨S192x4096, .bf16⟩
  | .hbm, ⟨5, _⟩ => ⟨S1x14336, .f32⟩
  | .hbm, ⟨6, _⟩ => ⟨S1x14336, .f32⟩
  | .hbm, ⟨7, _⟩ => ⟨S192x14336, .bf16⟩
  | .hbm, ⟨8, _⟩ => ⟨S192x1x14336, .bf16⟩
  | .local _ .vmem, ⟨0, _⟩ => ⟨S192x4096, .bf16⟩
  | .local _ .vmem, ⟨1, _⟩ => ⟨S1024x4096, .fp8e4m3⟩
  | .local _ .vmem, ⟨2, _⟩ => ⟨S1024x4096, .fp8e4m3⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S192x1024, .bf16⟩
  | .local _ .vmem, ⟨8, _⟩ => ⟨S192x1024, .bf16⟩
  | _, _ => ⟨S192x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S192x1x4096 : Shape := ⟨3, ![192, 1, 4096]⟩
abbrev S14336x4096 : Shape := ⟨2, ![14336, 4096]⟩
abbrev S14336 : Shape := ⟨1, ![14336]⟩
abbrev S192x1x14336 : Shape := ⟨3, ![192, 1, 14336]⟩
abbrev S1x1x14336 : Shape := ⟨3, ![1, 1, 14336]⟩

abbrev nBuf : Space → Nat
  | .hbm => 5
  | .vmem => 5
  | .smem => 0
  | _ => 0

abbrev bufTy : (tb : Table) → Fin (tcTables nBuf tb) → BufTy
  | .hbm, ⟨0, _⟩ => ⟨S192x1x4096, .bf16⟩
  | .hbm, ⟨1, _⟩ => ⟨S14336x4096, .fp8e4m3⟩
  | .hbm, ⟨2, _⟩ => ⟨S14336, .f32⟩
  | .hbm, ⟨3, _⟩ => ⟨S14336, .f32⟩
  | .hbm, ⟨4, _⟩ => ⟨S192x1x14336, .bf16⟩
  | .local _ .vmem, ⟨0, _⟩ => ⟨S192x1x4096, .bf16⟩
  | .local _ .vmem, ⟨1, _⟩ => ⟨S14336x4096, .fp8e4m3⟩
  | .local _ .vmem, ⟨2, _⟩ => ⟨S14336, .f32⟩
  | .local _ .vmem, ⟨3, _⟩ => ⟨S14336, .f32⟩
  | .local _ .vmem, ⟨4, _⟩ => ⟨S192x1x14336, .bf16⟩
  | _, _ => ⟨S192x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S192x1x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x1x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Linear.lean ====
/- The linear layer with weight codes, as one function of its four arrays over the extended reals. -/
module

public import Idealize.ShloMosaic.Lib.Pointwise

@[expose] public section

noncomputable section

namespace Cert.Linear

open Idealize.ShloMosaic

/-- Entry `(r, c)` of the layer: row `r` of the activations times row `c` of the weight codes, the product scaled by
    channel `c`'s scale, and channel `c`'s bias added. -/
def entry (x : (⟨3, ![192, 1, 4096]⟩ : Shape).Idx → EReal) (w : (⟨2, ![14336, 4096]⟩ : Shape).Idx → EReal)
    (s b : (⟨1, ![14336]⟩ : Shape).Idx → EReal) (r : Fin 192) (c : Fin 14336) : EReal :=
  (∑ k : Fin 4096, x (ix3 r 0 k) * w (ix2 c k)) * s (ix1 c) + b (ix1 c)

end Cert.Linear

end
-- ==== Proof.Reference.lean ====
/- What the reference computes: its one kernel's result is the linear layer, entry by entry. -/
module

public import proofs.«01_k».proof.Proof.Linear
public import proofs.«01_k».proof.Proof.Gen.ReferenceIdeal.Value

@[expose] public section

set_option maxRecDepth 16384

noncomputable section

namespace Cert.ReferenceIdeal.Linear

open Idealize.ShloMosaic Cert.ReferenceIdeal Cert.ReferenceIdeal.Gen

/-- Entry `(r, 0, c)` of the reference's result is entry `(r, c)` of the linear layer. -/
theorem result_apply (x : Vec Ideal S192x1x4096 .bf16) (w : Vec Ideal S14336x4096 .fp8e4m3) (s b : Vec Ideal S14336 .f32)
    (r : Fin 192) (u : Fin 1) (c : Fin 14336) :
    Value.G4 (F := Ideal) x w s b (ix3 r u c) = Cert.Linear.entry x w s b r c := by
  obtain rfl : u = 0 := Subsingleton.elim _ _
  pointwise [Value.G4, k0_pay1, Cert.Linear.entry]

end Cert.ReferenceIdeal.Linear

end
-- ==== Proof.Block.lean ====
/- What one grid point of the kernel computes: a block of 1024 output channels. -/
module

public import proofs.«01_k».proof.Proof.Gen.KernelIdeal.Frame
public import Idealize.ShloMosaic.Lib.Pointwise

@[expose] public section

set_option maxRecDepth 16384

noncomputable section

namespace Cert.KernelIdeal.Linear

open Idealize.ShloMosaic Cert.KernelIdeal Cert.KernelIdeal.Gen

/-- Entry `(r, c)` of the stored block: row `r` of the activations times row `c` of the block of codes, times the block's
    scale of `c`, plus the block's bias of `c`. -/
theorem block_apply (x : Vec Ideal S192x4096 .bf16) (w : Vec Ideal S1024x4096 .fp8e4m3) (s b : Vec Ideal S1x1024 .f32)
    (r : Fin 192) (c : Fin 1024) :
    out0_4 (F := Ideal) x w s b (ix2 r c)
      = (∑ k : Fin 4096, x (ix2 r k) * w (ix2 c k)) * s (ix2 0 c) + b (ix2 0 c) := by
  have hz : (![0, 0] : Fin 2 → Nat) = fun _ => 0 := funext fun a => by fin_cases a <;> rfl
  unfold out0_4
  rw [View.canon_unit_zero hz, View.ld_unit_zero (S := S192x4096) hz _ x, View.ld_unit_zero (S := S1024x4096) hz _ w,
    View.ld_unit_zero (S := S1x1024) hz _ s, View.ld_unit_zero (S := S1x1024) hz _ b]
  pointwise [k0_pay1]

end Cert.KernelIdeal.Linear

end
-- ==== Proof.Array.lean ====
/- What the kernel's program leaves in its result: the blocks its grid points write tile the output array, and the array
   re-laid by the host is the linear layer of the arguments. -/
module

public import proofs.«01_k».proof.Proof.Linear
public import proofs.«01_k».proof.Proof.Block
public import Idealize.ShloMosaic.Lib.Claim
public import Idealize.ShloMosaic.Lib.Pipeline.Value

@[expose] public section

set_option maxRecDepth 16384

noncomputable section

namespace Cert.KernelIdeal.Linear

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The host's reshapes, entry by entry -/

/-- Dropping the unit axis of the activations. -/
theorem rows_apply (x : Vec Ideal S192x1x4096 .bf16) (r : Fin 192) (k : Fin 4096) :
    shapeCast S192x4096 x shapeCasts_S192x1x4096_S192x4096 (ix2 r k) = x (ix3 r 0 k) := by
  pointwise

/-- A vector of channels as one row. -/
theorem lane_apply (x : Vec Ideal S14336 .f32) (k : Fin 14336) :
    shapeCast S1x14336 x shapeCasts_S14336_S1x14336 (ix2 0 k) = x (ix1 k) := by
  pointwise

/-- Adding a unit axis to the output array. -/
theorem result_cast_apply (x : Vec Ideal S192x14336 .bf16) (r : Fin 192) (k : Fin 14336) :
    shapeCast S192x1x14336 x shapeCasts_S192x14336_S192x1x14336 (ix3 r 0 k) = x (ix2 r k) := by
  pointwise

/-! ## The arrays the region is entered with -/

/-- Activations: entry `(r, k)` of the flattened array is entry `(r, 0, k)` of the argument. -/
theorem entry0 (c : Dev nD) (r : Fin 192) (k : Fin 4096) :
    (V m c main_v0 : Vec Ideal S192x4096 .bf16) (ix2 r k) = (m ((c : Thread nD τ).loc main_arg0) : Vec Ideal S192x1x4096 .bf16) (ix3 r 0 k) := by
  have h : V m c main_v0 = shapeCast S192x4096 (m ((c : Thread nD τ).loc main_arg0)) shapeCasts_S192x1x4096_S192x4096 := by
    entry_read
    rfl
  rw [h]
  exact rows_apply _ r k

/-- Scales: entry `(0, k)` of the row is entry `k` of the argument. -/
theorem entry2 (c : Dev nD) (k : Fin 14336) :
    (V m c main_v1 : Vec Ideal S1x14336 .f32) (ix2 0 k) = (m ((c : Thread nD τ).loc main_arg2) : Vec Ideal S14336 .f32) (ix1 k) := by
  have h : V m c main_v1 = shapeCast S1x14336 (m ((c : Thread nD τ).loc main_arg2)) shapeCasts_S14336_S1x14336 := by
    entry_read
    rfl
  rw [h]
  exact lane_apply _ k

/-- Biases: entry `(0, k)` of the row is entry `k` of the argument. -/
theorem entry3 (c : Dev nD) (k : Fin 14336) :
    (V m c main_v2 : Vec Ideal S1x14336 .f32) (ix2 0 k) = (m ((c : Thread nD τ).loc main_arg3) : Vec Ideal S14336 .f32) (ix1 k) := by
  have h : V m c main_v2 = shapeCast S1x14336 (m ((c : Thread nD τ).loc main_arg3)) shapeCasts_S14336_S1x14336 := by
    entry_read
    rfl
  rw [h]
  exact lane_apply _ k

/-! ## Where grid point `t`'s blocks lie: 1024 channels from channel `1024 * t` -/

/-- Channel `k` of point `t`'s block, as a channel of the whole layer. -/
def chan (t : Fin cfg0.N) (k : Fin 1024) : Fin 14336 :=
  ⟨t.val * 1024 + k.val, by have h : t.val < 14 := t.isLt; have := k.isLt; omega⟩

/-- The block indices at each point: the activations' is constant, the others' move with the point. -/
theorem idx_facts : ∀ t : Fin cfg0.N,
    (win0_0.index t (0 : Fin 2) = 0 ∧ win0_0.index t (1 : Fin 2) = 0) ∧ (win0_1.index t (0 : Fin 2) = t.val ∧ win0_1.index t (1 : Fin 2) = 0)
      ∧ (win0_2.index t (0 : Fin 2) = 0 ∧ win0_2.index t (1 : Fin 2) = t.val) ∧ (win0_3.index t (0 : Fin 2) = 0 ∧ win0_3.index t (1 : Fin 2) = t.val)
      ∧ (win0_4.index t (0 : Fin 2) = 0 ∧ win0_4.index t (1 : Fin 2) = t.val) :=
  (by decide +kernel : ∀ t : Fin grid0.N, _)

theorem emb0 (t : Fin cfg0.N) (r : Fin 192) (k : Fin 4096) : ((cfg0.win 0).blk t).view.emb (ix2 r k) = ix2 r k := by
  obtain ⟨⟨e0, e1⟩, -⟩ := idx_facts t
  funext a; apply Fin.ext
  match a with
  | ⟨0, _⟩ => show win0_0.index t (0 : Fin 2) * 192 + 1 * r.val = r.val; omega
  | ⟨1, _⟩ => show win0_0.index t (1 : Fin 2) * 4096 + 1 * k.val = k.val; omega

theorem emb1 (t : Fin cfg0.N) (r : Fin 1024) (k : Fin 4096) : ((cfg0.win 1).blk t).view.emb (ix2 r k) = ix2 (chan t r) k := by
  obtain ⟨-, ⟨e0, e1⟩, -⟩ := idx_facts t
  funext a; apply Fin.ext
  match a with
  | ⟨0, _⟩ => show win0_1.index t (0 : Fin 2) * 1024 + 1 * r.val = t.val * 1024 + r.val; omega
  | ⟨1, _⟩ => show win0_1.index t (1 : Fin 2) * 4096 + 1 * k.val = k.val; omega

theorem emb2 (t : Fin cfg0.N) (k : Fin 1024) : ((cfg0.win 2).blk t).view.emb (ix2 0 k) = ix2 0 (chan t k) := by
  obtain ⟨-, -, ⟨e0, e1⟩, -⟩ := idx_facts t
  funext a; apply Fin.ext
  match a with
  | ⟨0, _⟩ => show win0_2.index t (0 : Fin 2) * 1 + 1 * 0 = 0; omega
  | ⟨1, _⟩ => show win0_2.index t (1 : Fin 2) * 1024 + 1 * k.val = t.val * 1024 + k.val; omega

theorem emb3 (t : Fin cfg0.N) (k : Fin 1024) : ((cfg0.win 3).blk t).view.emb (ix2 0 k) = ix2 0 (chan t k) := by
  obtain ⟨-, -, -, ⟨e0, e1⟩, -⟩ := idx_facts t
  funext a; apply Fin.ext
  match a with
  | ⟨0, _⟩ => show win0_3.index t (0 : Fin 2) * 1 + 1 * 0 = 0; omega
  | ⟨1, _⟩ => show win0_3.index t (1 : Fin 2) * 1024 + 1 * k.val = t.val * 1024 + k.val; omega

theorem emb4 (t : Fin cfg0.N) (r : Fin 192) (k : Fin 1024) : ((cfg0.win 4).blk t).view.emb (ix2 r k) = ix2 r (chan t k) := by
  obtain ⟨-, -, -, -, e0, e1⟩ := idx_facts t
  funext a; apply Fin.ext
  match a with
  | ⟨0, _⟩ => show win0_4.index t (0 : Fin 2) * 192 + 1 * r.val = r.val; omega
  | ⟨1, _⟩ => show win0_4.index t (1 : Fin 2) * 1024 + 1 * k.val = t.val * 1024 + k.val; omega

/-! ## The input blocks, entry by entry, over the arguments -/

theorem iblk0_apply (c : Dev nD) (t : Fin cfg0.N) (r : Fin 192) (k : Fin 4096) :
    (iblk m c 0 t : Vec Ideal S192x4096 .bf16) (ix2 r k) = (m ((c : Thread nD τ).loc main_arg0) : Vec Ideal S192x1x4096 .bf16) (ix3 r 0 k) := by
  show V m c main_v0 (((cfg0.win 0).blk t).view.emb (ix2 r k)) = _
  rw [emb0]; exact entry0 m c r k

theorem iblk1_apply (c : Dev nD) (t : Fin cfg0.N) (r : Fin 1024) (k : Fin 4096) :
    (iblk m c 1 t : Vec Ideal S1024x4096 .fp8e4m3) (ix2 r k) = (m ((c : Thread nD τ).loc main_arg1) : Vec Ideal S14336x4096 .fp8e4m3) (ix2 (chan t r) k) := by
  show V m c main_arg1 (((cfg0.win 1).blk t).view.emb (ix2 r k)) = _
  rw [emb1, V_main_arg1]

theorem iblk2_apply (c : Dev nD) (t : Fin cfg0.N) (k : Fin 1024) :
    (iblk m c 2 t : Vec Ideal S1x1024 .f32) (ix2 0 k) = (m ((c : Thread nD τ).loc main_arg2) : Vec Ideal S14336 .f32) (ix1 (chan t k)) := by
  show V m c main_v1 (((cfg0.win 2).blk t).view.emb (ix2 0 k)) = _
  rw [emb2]; exact entry2 m c _

theorem iblk3_apply (c : Dev nD) (t : Fin cfg0.N) (k : Fin 1024) :
    (iblk m c 3 t : Vec Ideal S1x1024 .f32) (ix2 0 k) = (m ((c : Thread nD τ).loc main_arg3) : Vec Ideal S14336 .f32) (ix1 (chan t k)) := by
  show V m c main_v2 (((cfg0.win 3).blk t).view.emb (ix2 0 k)) = _
  rw [emb3]; exact entry3 m c _

/-! ## The output array, and the result -/

/-- The linear layer of the arguments as an array of 192 rows and 14336 channels. -/
def flat (c : Dev nD) : Vec Ideal S192x14336 .bf16 := fun i =>
  Cert.Linear.entry (m ((c : Thread nD τ).loc main_arg0)) (m ((c : Thread nD τ).loc main_arg1)) (m ((c : Thread nD τ).loc main_arg2))
    (m ((c : Thread nD τ).loc main_arg3)) (i 0) (i 1)

/-- Point `t` writes back its block of the linear layer. -/
theorem flushed4_eq (c : Dev nD) (t : Fin cfg0.N) :
    (dats m 0 c).flushed 4 t = ((cfg0.win 4).blk t).view.read (Elt Ideal) (flat m c) := by
  show (cfg0.win 4).cut (grid0.coords t) ((dats m 0 c).after 4 t) = _
  rw [after0_4]
  refine funext fun (j : S192x1024.Idx) => ?_
  obtain ⟨r, k, rfl⟩ : ∃ (r : Fin 192) (k : Fin 1024), j = ix2 r k := ⟨j 0, j 1, eq_ix2 j⟩
  show out0_4 (F := Ideal) (iblk m c 0 t) (iblk m c 1 t) (iblk m c 2 t) (iblk m c 3 t) (ix2 r k)
    = flat m c (((cfg0.win 4).blk t).view.emb (ix2 r k))
  rw [emb4, block_apply, iblk2_apply, iblk3_apply]
  simp only [iblk0_apply, iblk1_apply]
  rfl

/-- Every entry of the output array lies in the block of the point its channel falls to. -/
theorem covered4 (i : S192x14336.Idx) : ∃ t : Fin cfg0.N, (cfg0.win 4).flush t = true ∧ i ∈ ((cfg0.win 4).blk t).view.set := by
  obtain ⟨r, k, rfl⟩ : ∃ (r : Fin 192) (k : Fin 14336), i = ix2 r k := ⟨i 0, i 1, eq_ix2 i⟩
  have hk := k.isLt
  let t : Fin cfg0.N := (⟨k.val / 1024, by omega⟩ : Fin 14)
  have e : ((cfg0.win 4).blk t).view.emb (ix2 r ⟨k.val % 1024, by omega⟩) = ix2 r k := by
    rw [emb4]
    refine congrArg (ix2 r) (Fin.ext ?_)
    show k.val / 1024 * 1024 + k.val % 1024 = k.val
    omega
  exact ⟨t, flush0_4 t, e ▸ ((cfg0.win 4).blk t).view.emb_mem_set _⟩

/-- The kernel's output array after the run is the linear layer of the arguments. -/
theorem final4 (c : Dev nD) : (dats m 0 c).arrAt 4 cfg0.N = flat m c :=
  (dats m 0 c).arrAt_eq_of_cover 4 (flat m c) (fun t _ => flushed4_eq m c t) covered4

/-- The result buffer after the host's reshape holds the output array, re-laid with a unit axis. -/
theorem tail_v4 (c : Dev nD) :
    Pipeline.afterTail₀ cfgs (dats m) 0 (V0 m) [hostOps1] c main_v4 = shapeCast S192x1x14336 (flat m c) shapeCasts_S192x14336_S192x1x14336 := by
  unfold Pipeline.afterTail₀
  simp only [hostOps1, List.flatten_cons, List.flatten_nil, List.append_nil]
  rw [StableHlo.after_cons, StableHlo.after_nil, StableHlo.reshape_result]
  funext i
  show shapeCast S192x1x14336 (Pipeline.withArrays spec0 c (V0 m c) (fun w => (dats m 0 c).arrAt w cfg0.N)
    (Proc.devRef .tc (Pipeline.arrRef spec0 4))) shapeCasts_S192x14336_S192x1x14336 i = _
  rw [Pipeline.withArrays_arr spec0 winFacts0.arr_inj c _ _ 4]
  exact congrFun (congrArg (fun X : Vec Ideal S192x14336 .bf16 => shapeCast S192x1x14336 X shapeCasts_S192x14336_S192x1x14336) (final4 m c)) i

/-- Entry `(r, 0, k)` of the result is entry `(r, k)` of the linear layer. -/
theorem result_apply (c : Dev nD) (r : Fin 192) (u : Fin 1) (k : Fin 14336) :
    shapeCast S192x1x14336 (flat m c) shapeCasts_S192x14336_S192x1x14336 (ix3 r u k)
      = Cert.Linear.entry (m ((c : Thread nD τ).loc main_arg0)) (m ((c : Thread nD τ).loc main_arg1)) (m ((c : Thread nD τ).loc main_arg2))
          (m ((c : Thread nD τ).loc main_arg3)) r k := by
  obtain rfl : u = 0 := Subsingleton.elim _ _
  exact result_cast_apply (flat m c) r k

/-- The run of the kernel's program: the result is the re-laid linear layer of the arguments, which are unchanged. -/
theorem run : θ_run defs (onTc (τ := τ) (main (F := Ideal))) ⟨m, fun _ => 0, ρ⟩ fun r => ∀ c : Dev nD,
      r.2.mem ((c : Thread nD τ).loc main_v4) = shapeCast S192x1x14336 (flat m c) shapeCasts_S192x14336_S192x1x14336
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      ((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Linear

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Reference
public import proofs.«01_k».proof.Proof.Array
public import Idealize.ShloMosaic.Adequacy
public import Idealize.ShloMosaic.Init

@[expose] public section

noncomputable section

namespace Cert.Proof

open Idealize.ShloMosaic Idealize.SL.Sem Cert.Kernel

/-- From the same four arguments the kernel and the reference end with the same result: both hold, at every entry, the
    linear layer of the arguments. -/
theorem algebraic : algebraic_KernelIdeal_ReferenceIdeal (hKernelIdeal := Cert.KernelIdeal.Gen.facts)
    (hReferenceIdeal := Cert.ReferenceIdeal.Gen.facts) := by
  pair_intro
  · run_from Cert.KernelIdeal.Linear.run m g
  · run_from Cert.ReferenceIdeal.Value.run m' g'
    refine funext fun (i : Cert.KernelIdeal.S192x1x14336.Idx) => ?_
    obtain ⟨r, u, k, rfl⟩ : ∃ (r : Fin 192) (u : Fin 1) (k : Fin 14336), i = ix3 r u k := ⟨i 0, i 1, i 2, eq_ix3 i⟩
    exact (Cert.ReferenceIdeal.Linear.result_apply _ _ _ _ r u k).trans (Cert.KernelIdeal.Linear.result_apply m c r u k).symm

/-- All the claims: the three programs end with their arguments unchanged and no transfer pending, the idealized kernel
    is the kernel, and the idealized kernel's result is the idealized reference's. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
